-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_sample_per_cell [hPre_one_sample_per_cell : Cert.Pre_one_sample_per_cell.Facts] (m : (ℓ : Loc Cert.KernelIdeal.nD Cert.KernelIdeal.τ Cert.KernelIdeal.sig) → Buf (Elt Ideal) ℓ) : Prop :=
  ∀ c : Dev Cert.KernelIdeal.nD,
    (Cert.Pre_one_sample_per_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_sample_per_cell [hPre_one_sample_per_cell : Cert.Pre_one_sample_per_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_sample_per_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_one_sample_per_cell [hKernelIdeal : Cert.KernelIdeal.Facts] [hPre_one_sample_per_cell : Cert.Pre_one_sample_per_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_sample_per_cell m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_one_sample_per_cell [hReferenceIdeal : Cert.ReferenceIdeal.Facts] [hPre_one_sample_per_cell : Cert.Pre_one_sample_per_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_sample_per_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_one_sample_per_cell [hKernelIdeal : Cert.KernelIdeal.Facts] [hReferenceIdeal : Cert.ReferenceIdeal.Facts] [hPre_one_sample_per_cell : Cert.Pre_one_sample_per_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_sample_per_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_one_sample_per_cell : Cert.Pre_one_sample_per_cell.Facts),
    quiescent_Kernel (hKernel := hKernel)
    ∧ quiescent_KernelIdeal (hKernelIdeal := hKernelIdeal)
    ∧ quiescent_KernelIdeal_pre_one_sample_per_cell (hKernelIdeal := hKernelIdeal) (hPre_one_sample_per_cell := hPre_one_sample_per_cell)
    ∧ quiescent_ReferenceIdeal (hReferenceIdeal := hReferenceIdeal)
    ∧ quiescent_ReferenceIdeal_pre_one_sample_per_cell (hReferenceIdeal := hReferenceIdeal) (hPre_one_sample_per_cell := hPre_one_sample_per_cell)
    ∧ preserves_Kernel_KernelIdeal
    ∧ algebraic_KernelIdeal_ReferenceIdeal_pre_one_sample_per_cell (hKernelIdeal := hKernelIdeal) (hReferenceIdeal := hReferenceIdeal) (hPre_one_sample_per_cell := hPre_one_sample_per_cell)
-- ==== Pre_one_sample_per_cell.lean ====
abbrev S1024x1024x32 : Shape := ⟨3, ![1024, 1024, 32]⟩
abbrev S1048576x2 : Shape := ⟨2, ![1048576, 2]⟩
abbrev S1048576 : Shape := ⟨1, ![1048576]⟩
abbrev S1024x1024 : Shape := ⟨2, ![1024, 1024]⟩
abbrev S1048576x1 : Shape := ⟨2, ![1048576, 1]⟩
abbrev S_ : Shape := ⟨0, ![]⟩
abbrev S1x1024 : Shape := ⟨2, ![1, 1024]⟩
abbrev S1024x1 : Shape := ⟨2, ![1024, 1]⟩

class Facts : Prop where
  slices_S1048576x2_S1048576x1_0_0 : S1048576x2.Slices ![0, 0] S1048576x1
  shapeCasts_S1048576x1_S1048576 : S1048576x1.ShapeCasts S1048576
  shapeCasts_S1048576_S1024x1024 : S1048576.ShapeCasts S1024x1024
  slices_S1048576x2_S1048576x1_0_1 : S1048576x2.Slices ![0, 1] S1048576x1
  bcast_S_S1024x1024 : S_.BroadcastsInDim S1024x1024 (![] : Fin 0 → Fin S1024x1024.rank)
  slices_S1024x1024_S1x1024_0_0 : S1024x1024.Slices ![0, 0] S1x1024
  bcast_S1x1024_S1024x1024_0_1 : S1x1024.BroadcastsInDim S1024x1024 (![0, 1] : Fin 2 → Fin S1024x1024.rank)
  slices_S1024x1024_S1024x1_0_0 : S1024x1024.Slices ![0, 0] S1024x1
  bcast_S1024x1_S1024x1024_0_1 : S1024x1.BroadcastsInDim S1024x1024 (![0, 1] : Fin 2 → Fin S1024x1024.rank)

variable [Facts]

def fn_part1 {F : FTy → Type} [FloatOps F] (main_v0 : IVec S1024x1024 32) (main_v4 : FVec F S1024x1024 .f32) (main_v7 : FVec F S1024x1024 .f32) (main_v19 : IVec S1024x1024 1) (main_v20 : IVec S1024x1024 32) (main_c_1 : IVec S_ 32) : IVec S1024x1024 1 :=
  let main_v21 : IVec S1024x1024 32 := broadcastInDim S1024x1024 ![] bcast_S_S1024x1024 main_c_1
  let main_v22 : IVec S1024x1024 32 := addi main_v0 main_v21
  let main_c_2 : IVec S_ 32 := constantI S_ 32 1023#32
  let main_v23 : IVec S1024x1024 32 := broadcastInDim S1024x1024 ![] bcast_S_S1024x1024 main_c_2
  let main_v24 : IVec S1024x1024 32 := minsi main_v22 main_v23
  let main_v25 : IVec S1024x1024 1 := cmpi .eq main_v20 main_v24
  let main_v26 : IVec S1024x1024 1 := andi main_v19 main_v25
  let main_v27 : FVec F S1x1024 .f32 := (extractStridedSlice S1x1024 ![0, 0] · slices_S1024x1024_S1x1024_0_0) main_v4
  let main_v28 : FVec F S1024x1024 .f32 := broadcastInDim S1024x1024 ![0, 1] bcast_S1x1024_S1024x1024_0_1 main_v27
  let main_v29 : IVec S1024x1024 1 := cmpf .oeq main_v4 main_v28
  let main_v30 : IVec S1024x1024 1 := andi main_v26 main_v29
  let main_v31 : FVec F S1024x1 .f32 := (extractStridedSlice S1024x1 ![0, 0] · slices_S1024x1024_S1024x1_0_0) main_v7
  let main_v32 : FVec F S1024x1024 .f32 := broadcastInDim S1024x1024 ![0, 1] bcast_S1024x1_S1024x1024_0_1 main_v31
  let main_v33 : IVec S1024x1024 1 := cmpf .oeq main_v7 main_v32
  let main_v34 : IVec S1024x1024 1 := andi main_v30 main_v33
  let main_cst : FVec F S_ .f32 := constant S_ .f32 0x00000000#32
  let main_v35 : FVec F S1024x1024 .f32 := broadcastInDim S1024x1024 ![] bcast_S_S1024x1024 main_cst
  let main_v36 : IVec S1024x1024 1 := cmpf .oge main_v4 main_v35
  let main_v37 : IVec S1024x1024 1 := andi main_v34 main_v36
  let main_cst_3 : FVec F S_ .f32 := constant S_ .f32 0x3F800000#32
  let main_v38 : FVec F S1024x1024 .f32 := broadcastInDim S1024x1024 ![] bcast_S_S1024x1024 main_cst_3
  let main_v39 : IVec S1024x1024 1 := cmpf .ole main_v4 main_v38
  let main_v40 : IVec S1024x1024 1 := andi main_v37 main_v39
  main_v40

def fn {F : FTy → Type} [FloatOps F] (main_arg0 : FVec F S1024x1024x32 .f32) (main_arg1 : FVec F S1048576x2 .f32) (main_arg2 : IVec S1048576 32) (main_arg3 : IVec S1048576 32) (main_arg4 : IVec S1048576 32) (main_arg5 : IVec S1048576 32) : IVec S1024x1024 1 :=
  let main_v0 : IVec S1024x1024 32 := iotaInDim S1024x1024 32 0
  let main_v1 : IVec S1024x1024 32 := iotaInDim S1024x1024 32 1
  let main_v2 : FVec F S1048576x1 .f32 := (extractStridedSlice S1048576x1 ![0, 0] · slices_S1048576x2_S1048576x1_0_0) main_arg1
  let main_v3 : FVec F S1048576 .f32 := shapeCast S1048576 main_v2 shapeCasts_S1048576x1_S1048576
  let main_v4 : FVec F S1024x1024 .f32 := shapeCast S1024x1024 main_v3 shapeCasts_S1048576_S1024x1024
  let main_v5 : FVec F S1048576x1 .f32 := (extractStridedSlice S1048576x1 ![0, 1] · slices_S1048576x2_S1048576x1_0_1) main_arg1
  let main_v6 : FVec F S1048576 .f32 := shapeCast S1048576 main_v5 shapeCasts_S1048576x1_S1048576
  let main_v7 : FVec F S1024x1024 .f32 := shapeCast S1024x1024 main_v6 shapeCasts_S1048576_S1024x1024
  let main_v8 : IVec S1024x1024 32 := shapeCast S1024x1024 main_arg2 shapeCasts_S1048576_S1024x1024
  let main_v9 : IVec S1024x1024 1 := cmpi .eq main_v8 main_v1
  let main_v10 : IVec S1024x1024 32 := shapeCast S1024x1024 main_arg3 shapeCasts_S1048576_S1024x1024
  let main_v11 : IVec S1024x1024 1 := cmpi .eq main_v10 main_v0
  let main_v12 : IVec S1024x1024 1 := andi main_v9 main_v11
  let main_v13 : IVec S1024x1024 32 := shapeCast S1024x1024 main_arg4 shapeCasts_S1048576_S1024x1024
  let main_c : IVec S_ 32 := constantI S_ 32 1#32
  let main_v14 : IVec S1024x1024 32 := broadcastInDim S1024x1024 ![] bcast_S_S1024x1024 main_c
  let main_v15 : IVec S1024x1024 32 := addi main_v1 main_v14
  let main_c_0 : IVec S_ 32 := constantI S_ 32 1023#32
  let main_v16 : IVec S1024x1024 32 := broadcastInDim S1024x1024 ![] bcast_S_S1024x1024 main_c_0
  let main_v17 : IVec S1024x1024 32 := minsi main_v15 main_v16
  let main_v18 : IVec S1024x1024 1 := cmpi .eq main_v13 main_v17
  let main_v19 : IVec S1024x1024 1 := andi main_v12 main_v18
  let main_v20 : IVec S1024x1024 32 := shapeCast S1024x1024 main_arg5 shapeCasts_S1048576_S1024x1024
  let main_c_1 : IVec S_ 32 := constantI S_ 32 1#32
  fn_part1 (F := F) main_v0 main_v4 main_v7 main_v19 main_v20 main_c_1
-- ==== Kernel.lean ====
abbrev S1024x1024x32 : Shape := ⟨3, ![1024, 1024, 32]⟩
abbrev S1048576x2 : Shape := ⟨2, ![1048576, 2]⟩
abbrev S1048576 : Shape := ⟨1, ![1048576]⟩
abbrev S1024x32x1024 : Shape := ⟨3, ![1024, 32, 1024]⟩
abbrev S1024x1 : Shape := ⟨2, ![1024, 1]⟩
abbrev S1024 : Shape := ⟨1, ![1024]⟩
abbrev S1x1x1024 : Shape := ⟨3, ![1, 1, 1024]⟩
abbrev S32x1048576 : Shape := ⟨2, ![32, 1048576]⟩
abbrev S64x1 : Shape := ⟨2, ![64, 1]⟩
abbrev S64x32x1024 : Shape := ⟨3, ![64, 32, 1024]⟩
abbrev S1x32x1024 : Shape := ⟨3, ![1, 32, 1024]⟩
abbrev S32x65536 : Shape := ⟨2, ![32, 65536]⟩
abbrev S63x32x1024 : Shape := ⟨3, ![63, 32, 1024]⟩
abbrev S64x1x1 : Shape := ⟨3, ![64, 1, 1]⟩
abbrev S64x32x1023 : Shape := ⟨3, ![64, 32, 1023]⟩
abbrev S64x32x1 : Shape := ⟨3, ![64, 32, 1]⟩
abbrev S32x1024 : Shape := ⟨2, ![32, 1024]⟩
abbrev S1048576x32 : Shape := ⟨2, ![1048576, 32]⟩

abbrev nBuf : Space → Nat
  | .hbm => 15
  | .vmem => 9
  | .smem => 0
  | _ => 0

abbrev bufTy : (tb : Table) → Fin (tcTables nBuf tb) → BufTy
  | .hbm, ⟨0, _⟩ => ⟨S1024x1024x32, .f32⟩
  | .hbm, ⟨1, _⟩ => ⟨S1048576x2, .f32⟩
  | .hbm, ⟨2, _⟩ => ⟨S1048576, .i32⟩
  | .hbm, ⟨3, _⟩ => ⟨S1048576, .i32⟩
  | .hbm, ⟨4, _⟩ => ⟨S1048576, .i32⟩
  | .hbm, ⟨5, _⟩ => ⟨S1048576, .i32⟩
  | .hbm, ⟨6, _⟩ => ⟨S1024x32x1024, .f32⟩
  | .hbm, ⟨7, _⟩ => ⟨S1024x1, .f32⟩
  | .hbm, ⟨8, _⟩ => ⟨S1024, .f32⟩
  | .hbm, ⟨9, _⟩ => ⟨S1x1x1024, .f32⟩
  | .hbm, ⟨10, _⟩ => ⟨S1024x1, .f32⟩
  | .hbm, ⟨11, _⟩ => ⟨S1024, .f32⟩
  | .hbm, ⟨12, _⟩ => ⟨S1024x1, .f32⟩
  | .hbm, ⟨13, _⟩ => ⟨S32x1048576, .f32⟩
  | .hbm, ⟨14, _⟩ => ⟨S1048576x32, .f32⟩
  | .local _ .vmem, ⟨0, _⟩ => ⟨S1x1x1024, .f32⟩
  | .local _ .vmem, ⟨1, _⟩ => ⟨S64x1, .f32⟩
  | .local _ .vmem, ⟨2, _⟩ => ⟨S64x1, .f32⟩
  | .local _ .vmem, ⟨3, _⟩ => ⟨S64x32x1024, .f32⟩
  | .local _ .vmem, ⟨4, _⟩ => ⟨S64x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S32x65536, .f32⟩
  | .local _ .vmem, ⟨8, _⟩ => ⟨S32x65536, .f32⟩
  | _, _ => ⟨S1024x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x1024x32 : Shape := ⟨3, ![1024, 1024, 32]⟩
abbrev S1048576x2 : Shape := ⟨2, ![1048576, 2]⟩
abbrev S1048576 : Shape := ⟨1, ![1048576]⟩
abbrev S1048576x1 : Shape := ⟨2, ![1048576, 1]⟩
abbrev S_ : Shape := ⟨0, ![]⟩
abbrev S1048576x32 : Shape := ⟨2, ![1048576, 32]⟩

abbrev nBuf : Space → Nat
  | .hbm => 111
  | .vmem => 0
  | .smem => 0
  | _ => 0

abbrev bufTy : (tb : Table) → Fin (tcTables nBuf tb) → BufTy
  | .hbm, ⟨0, _⟩ => ⟨S1024x1024x32, .f32⟩
  | .hbm, ⟨1, _⟩ => ⟨S1048576x2, .f32⟩
  | .hbm, ⟨2, _⟩ => ⟨S1048576, .i32⟩
  | .hbm, ⟨3, _⟩ => ⟨S1048576, .i32⟩
  | .hbm, ⟨4, _⟩ => ⟨S1048576, .i32⟩
  | .hbm, ⟨5, _⟩ => ⟨S1048576, .i32⟩
  | .hbm, ⟨6, _⟩ => ⟨S1048576x1, .f32⟩
  | .hbm, ⟨7, _⟩ => ⟨S1048576x1, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x1, .i32⟩
  | .hbm, ⟨24, _⟩ => ⟨S1048576x2, .i32⟩
  | .hbm, ⟨25, _⟩ => ⟨S1048576x32, .f32⟩
  | .hbm, ⟨26, _⟩ => ⟨S_, .f32⟩
  | .hbm, ⟨27, _⟩ => ⟨S1048576x1, .f32⟩
  | .hbm, ⟨28, _⟩ => ⟨S1048576x1, .f32⟩
  | .hbm, ⟨29, _⟩ => ⟨S1048576x32, .f32⟩
  | .hbm, ⟨30, _⟩ => ⟨S1048576x32, .f32⟩
  | .hbm, ⟨31, _⟩ => ⟨S_, .f32⟩
  | .hbm, ⟨32, _⟩ => ⟨S1048576x1, .f32⟩
  | .hbm, ⟨33, _⟩ => ⟨S1048576x1, .f32⟩
  | .hbm, ⟨34, _⟩ => ⟨S1048576x32, .f32⟩
  | .hbm, ⟨35, _⟩ => ⟨S1048576x32, .f32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576x1, .i32⟩
  | .hbm, ⟨52, _⟩ => ⟨S1048576x2, .i32⟩
  | .hbm, ⟨53, _⟩ => ⟨S1048576x32, .f32⟩
  | .hbm, ⟨54, _⟩ => ⟨S1048576x32, .f32⟩
  | .hbm, ⟨55, _⟩ => ⟨S1048576x32, .f32⟩
  | .hbm, ⟨56, _⟩ => ⟨S_, .f32⟩
  | .hbm, ⟨57, _⟩ => ⟨S1048576x1, .f32⟩
  | .hbm, ⟨58, _⟩ => ⟨S1048576x1, .f32⟩
  | .hbm, ⟨59, _⟩ => ⟨S1048576x32, .f32⟩
  | .hbm, ⟨60, _⟩ => ⟨S1048576x32, .f32⟩
  | .hbm, ⟨61, _⟩ => ⟨S1048576x32, .f32⟩
  | .hbm, ⟨62, _⟩ => ⟨S_, .i32⟩
  | .hbm, ⟨63, _⟩ => ⟨S1048576, .i32⟩
  | .hbm, ⟨64, _⟩ => ⟨S1048576, .i1⟩
  | .hbm, ⟨65, _⟩ => ⟨S_, .i32⟩
  | .hbm, ⟨66, _⟩ => ⟨S1048576, .i32⟩
  | .hbm, ⟨67, _⟩ => ⟨S1048576, .i32⟩
  | .hbm, ⟨68, _⟩ => ⟨S1048576, .i32⟩
  | .hbm, ⟨69, _⟩ => ⟨S_, .i32⟩
  | .hbm, ⟨70, _⟩ => ⟨S1048576, .i32⟩
  | .hbm, ⟨71, _⟩ => ⟨S1048576, .i1⟩
  | .hbm, ⟨72, _⟩ => ⟨S_, .i32⟩
  | .hbm, ⟨73, _⟩ => ⟨S1048576, .i32⟩
  | .hbm, ⟨74, _⟩ => ⟨S1048576, .i32⟩
  | .hbm, ⟨75, _⟩ => ⟨S1048576, .i32⟩
  | .hbm, ⟨76, _⟩ => ⟨S1048576x1, .i32⟩
  | .hbm, ⟨77, _⟩ => ⟨S1048576x1, .i32⟩
  | .hbm, ⟨78, _⟩ => ⟨S1048576x2, .i32⟩
  | .hbm, ⟨79, _⟩ => ⟨S1048576x32, .f32⟩
  | .hbm, ⟨80, _⟩ => ⟨S_, .f32⟩
  | .hbm, ⟨81, _⟩ => ⟨S1048576x1, .f32⟩
  | .hbm, ⟨82, _⟩ => ⟨S1048576x1, .f32⟩
  | .hbm, ⟨83, _⟩ => ⟨S1048576x32, .f32⟩
  | .hbm, ⟨84, _⟩ => ⟨S1048576x32, .f32⟩
  | .hbm, ⟨85, _⟩ => ⟨S1048576x32, .f32⟩
  | .hbm, ⟨86, _⟩ => ⟨S1048576x32, .f32⟩
  | .hbm, ⟨87, _⟩ => ⟨S1048576x32, .f32⟩
  | .hbm, ⟨88, _⟩ => ⟨S_, .i32⟩
  | .hbm, ⟨89, _⟩ => ⟨S1048576, .i32⟩
  | .hbm, ⟨90, _⟩ => ⟨S1048576, .i1⟩
  | .hbm, ⟨91, _⟩ => ⟨S_, .i32⟩
  | .hbm, ⟨92, _⟩ => ⟨S1048576, .i32⟩
  | .hbm, ⟨93, _⟩ => ⟨S1048576, .i32⟩
  | .hbm, ⟨94, _⟩ => ⟨S1048576, .i32⟩
  | .hbm, ⟨95, _⟩ => ⟨S_, .i32⟩
  | .hbm, ⟨96, _⟩ => ⟨S1048576, .i32⟩
  | .hbm, ⟨97, _⟩ => ⟨S1048576, .i1⟩
  | .hbm, ⟨98, _⟩ => ⟨S_, .i32⟩
  | .hbm, ⟨99, _⟩ => ⟨S1048576, .i32⟩
  | .hbm, ⟨100, _⟩ => ⟨S1048576, .i32⟩
  | .hbm, ⟨101, _⟩ => ⟨S1048576, .i32⟩
  | .hbm, ⟨102, _⟩ => ⟨S1048576x1, .i32⟩
  | .hbm, ⟨103, _⟩ => ⟨S1048576x1, .i32⟩
  | .hbm, ⟨104, _⟩ => ⟨S1048576x2, .i32⟩
  | .hbm, ⟨105, _⟩ => ⟨S1048576x32, .f32⟩
  | .hbm, ⟨106, _⟩ => ⟨S1048576x32, .f32⟩
  | .hbm, ⟨107, _⟩ => ⟨S1048576x32, .f32⟩
  | .hbm, ⟨108, _⟩ => ⟨S1048576x32, .f32⟩
  | .hbm, ⟨109, _⟩ => ⟨S1048576x32, .f32⟩
  | .hbm, ⟨110, _⟩ => ⟨S1048576x32, .f32⟩
  | _, _ => ⟨S1024x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pointwise
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.KernelIdeal.StencilValue

open Idealize.ShloMosaic Cert.KernelIdeal Cert.KernelIdeal.Gen

/-! # One block of the kernel: 64 grid rows, read one cell at a time -/

/-- The next position along a grid axis of 1024, the last one staying where it is. -/
def nxt (j : Fin 1024) : Fin 1024 := ⟨min (j.val + 1) 1023, by omega⟩

/-- The data under row `r` of a block: the block's next row, or for its last row the one extra row read beside the block. -/
def below (x2 : Vec Ideal S64x32x1024 .f32) (x3 : Vec Ideal S1x32x1024 .f32) (r : Fin 64) (f : Fin 32) (j : Fin 1024) : EReal :=
  if h : r.val < 63 then x2 (ix3 ⟨1 + r.val, by omega⟩ f j) else x3 (ix3 0 f j)

/-- The interpolation across rows at one cell of the block, by the row weight `x1`. -/
def blend (x1 : Vec Ideal S64x1 .f32) (x2 : Vec Ideal S64x32x1024 .f32) (x3 : Vec Ideal S1x32x1024 .f32)
    (r : Fin 64) (f : Fin 32) (j : Fin 1024) : EReal :=
  x2 (ix3 r f j) * (1 - x1 (ix2 r 0)) + below x2 x3 r f j * x1 (ix2 r 0)

/-- One cell of the block's result: the row interpolations at `j` and at the next column, mixed by the column weight `x0`. -/
def blockCell (x0 : Vec Ideal S1x1x1024 .f32) (x1 : Vec Ideal S64x1 .f32) (x2 : Vec Ideal S64x32x1024 .f32)
    (x3 : Vec Ideal S1x32x1024 .f32) (r : Fin 64) (f : Fin 32) (j : Fin 1024) : EReal :=
  blend x1 x2 x3 r f j * (1 - x0 (ix3 0 0 j)) + blend x1 x2 x3 r f (nxt j) * x0 (ix3 0 0 j)

/-- The kernel's whole 64-row result, read at row `r`, feature `f`, column `j`. -/
theorem pay2_apply (v0 : Vec Ideal S64x32x1024 .f32) (v2 : Vec Ideal S1x32x1024 .f32) (v6 : Vec Ideal S64x1 .f32)
    (v19 : Vec Ideal S1x1x1024 .f32) (r : Fin 64) (f : Fin 32) (j : Fin 1024) :
    k0_pay2 v0 v2 v6 v19 (ix3 r f j) = blockCell v19 v6 v0 v2 r f j := by
  have hcol' : ∀ (h : j.val < 1023) (p : 1 + j.val < 1024), (⟨1 + j.val, p⟩ : Fin 1024) = nxt j :=
    fun h p => Fin.ext (by simp only [nxt]; omega)
  have hlast : ∀ (h : ¬ j.val < 1023) (p : 1023 + (j.val - 1023) < 1024), (⟨1023 + (j.val - 1023), p⟩ : Fin 1024) = nxt j :=
    fun h p => Fin.ext (by have := j.isLt; simp only [nxt]; omega)
  have hrow : ∀ (h : ¬ r.val < 63) (p : r.val - 63 < 1), (⟨r.val - 63, p⟩ : Fin 1) = 0 := fun _ _ => Subsingleton.elim _ _
  unfold blockCell blend below
  pointwise [k0_pay2]
  by_cases hj : j.val < 1023 <;> by_cases hr : r.val < 63 <;> simp [hj, hr, hcol', hlast, hrow]

/-- What the block's 65536 output columns hold: column `y` is row `y / 1024` of the block at grid column `y % 1024`. -/
def rowsOf (v : FVec Ideal S64x32x1024 .f32) : S32x65536.Idx → EReal := fun y =>
  v (ix3 ⟨(y 1).val / 1024, by have := (y 1).isLt; change (y 1).val < 65536 at this; omega⟩ (y 0)
    ⟨(y 1).val % 1024, Nat.mod_lt _ (by decide)⟩)

/-- One row store: row `o` of the result, laid at the 1024 output columns from `1024 o`, is `rowsOf` there. -/
theorem rowStore (o c : Nat) (hc : c = 1024 * o) (v : FVec Ideal S64x32x1024 .f32) (h : S64x32x1024.Slices ![o, 0, 0] S1x32x1024)
    (hs : S1x32x1024.ShapeCasts S32x1024) (inb : ∀ a, (![0, c] : Fin 2 → Nat) a + S32x1024.size a ≤ S32x65536.size a)
    (x : S32x1024.Idx) :
    shapeCast S32x1024 (extractStridedSlice S1x32x1024 ![o, 0, 0] v h) hs x
      = rowsOf v ((Rect.unit (s := S32x65536) ![0, c] S32x1024.size inb).emb x) := by
  subst hc
  obtain ⟨f, j, rfl⟩ : ∃ f j, x = ix2 f j := ⟨x 0, x 1, eq_ix2 x⟩
  have hj := j.isLt
  have ho : o < 64 := by have := h.2 0; simp at this; omega
  unfold rowsOf
  pointwise
  refine congrArg v ?_
  have e0 : ((Rect.unit (s := S32x65536) ![0, 1024 * o] S32x1024.size inb).emb (ix2 f j) 0).val = f.val := by
    rw [Rect.emb_apply]; show 0 + 1 * f.val = f.val; omega
  have e1 : ((Rect.unit (s := S32x65536) ![0, 1024 * o] S32x1024.size inb).emb (ix2 f j) 1).val = 1024 * o + j.val := by
    rw [Rect.emb_apply]; show 1024 * o + 1 * j.val = _; omega
  funext a
  match a with
  | ⟨0, _⟩ => exact Fin.ext (show o = _ / 1024 by rw [e1]; omega)
  | ⟨1, _⟩ => exact Fin.ext e0.symm
  | ⟨2, _⟩ => exact Fin.ext (show j.val = _ % 1024 by rw [e1]; omega)

/-- The block's output buffer after the body: at every index the row of the result that the index names. -/
theorem out_apply (x0 : Vec Ideal S1x1x1024 .f32) (x1 : Vec Ideal S64x1 .f32) (x2 : Vec Ideal S64x32x1024 .f32)
    (x3 : Vec Ideal S1x32x1024 .f32) (y : S32x65536.Idx) :
    out0_4 x0 x1 x2 x3 y = rowsOf (k0_pay66 x0 x1 x2 x3) y := by
  unfold out0_4
  refine View.canon_apply_of_pieces _ _ (View.PiecesOf.mem ?_) y (cover0_4 ..)
  repeat' first
    | exact trivial
    | refine ⟨fun x => ?_, ?_⟩
    | (dsimp only; refine rowStore _ _ ?_ _ _ _ _ x; rfl)

/-- The block's output buffer in closed form: column `y` of the 65536 is the cell at row `y / 1024`, grid column `y % 1024`. -/
theorem out_cell (x0 : Vec Ideal S1x1x1024 .f32) (x1 : Vec Ideal S64x1 .f32) (x2 : Vec Ideal S64x32x1024 .f32)
    (x3 : Vec Ideal S1x32x1024 .f32) (y : S32x65536.Idx) :
    out0_4 x0 x1 x2 x3 y = blockCell x0 x1 x2 x3 ⟨(y 1).val / 1024, by have := (y 1).isLt; change (y 1).val < 65536 at this; omega⟩
      (y 0) ⟨(y 1).val % 1024, Nat.mod_lt _ (by decide)⟩ := by
  rw [out_apply]
  refine (pay2_apply _ _ _ _ _ _ _).trans ?_
  have h0 : View.ld x0 r0_3 = x0 := View.ld_unit_lit _ _ (by decide)
  have h1 : View.ld x1 r0_2 = x1 := View.ld_unit_lit _ _ (by decide)
  have h2 : View.ld x2 r0_0 = x2 := View.ld_unit_lit _ _ (by decide)
  have h3 : View.ld x3 r0_1 = x3 := View.ld_unit_lit _ _ (by decide)
  rw [h0, h1, h2, h3]

end Cert.KernelIdeal.StencilValue

end
-- ==== Proof.Array.lean ====
module

public import proofs.«01_k».proof.Proof.Block
public import Idealize.ShloMosaic.Lib.StableHlo.Run

@[expose] public section

set_option maxRecDepth 16384

noncomputable section

namespace Cert.KernelIdeal.StencilValue

open Idealize.ShloMosaic Idealize.ShloMosaic.TcCoe Idealize.SL.Sem Cert.KernelIdeal Cert.KernelIdeal.Gen

/-! # The kernel's whole result, read off its arguments -/

variable (m : (ℓ : Loc nD τ sig) → Buf (Elt Ideal) ℓ) (ρ : Dev nD → PrngReg)

/-- The weight along the columns at grid column `j`: the first weight of the sample at row 0, column `j`. -/
def colW (l : S1048576x2.Idx → EReal) (j : Fin 1024) : EReal := l (ix2 ⟨j.val, by omega⟩ 0)

/-- The weight along the rows at grid row `i`: the second weight of the sample at row `i`, column 0. -/
def rowW (l : S1048576x2.Idx → EReal) (i : Fin 1024) : EReal := l (ix2 ⟨1024 * i.val, by omega⟩ 1)

/-- The data at grid cell `(i, j)` mixed with the data one row further, by the row weight. -/
def rowMix (d : S1024x1024x32.Idx → EReal) (l : S1048576x2.Idx → EReal) (i j : Fin 1024) (f : Fin 32) : EReal :=
  d (ix3 i j f) * (1 - rowW l i) + d (ix3 (nxt i) j f) * rowW l i

/-- The kernel's value at grid cell `(i, j)`: the row mixes at `j` and one column further, mixed by the column weight. -/
def cellK (d : S1024x1024x32.Idx → EReal) (l : S1048576x2.Idx → EReal) (i j : Fin 1024) (f : Fin 32) : EReal :=
  rowMix d l i j f * (1 - colW l j) + rowMix d l i (nxt j) f * colW l j

/-- What the region leaves in the feature-major result: column `n` is grid cell `(n / 1024, n % 1024)`. -/
def outK (d : S1024x1024x32.Idx → EReal) (l : S1048576x2.Idx → EReal) : S32x1048576.Idx → EReal := fun y =>
  cellK d l ⟨(y 1).val / 1024, by have := (y 1).isLt; change (y 1).val < 1048576 at this; omega⟩
    ⟨(y 1).val % 1024, Nat.mod_lt _ (by decide)⟩ (y 0)

/-! ## The arrays the region finds -/

/-- The data transposed to feature-major rows, as the region finds it. -/
theorem V_data (c : Dev nD) (i : Fin 1024) (f : Fin 32) (j : Fin 1024) :
    V m c main_v0 (ix3 i f j) = m ((c : Thread nD τ).loc main_arg0) (ix3 i j f) := by
  have e : V m c main_v0 = transpose S1024x32x1024 [0, 2, 1] (m ((c : Thread nD τ).loc main_arg0))
      transposes_S1024x1024x32_S1024x32x1024_0_2_1 := by
    show StableHlo.after hostOps0 _ _ = _
    after_results
  rw [e]
  pointwise

/-- The column weights as the region finds them. -/
theorem V_col (c : Dev nD) (j : Fin 1024) :
    V m c main_v3 (ix3 0 0 j) = colW (m ((c : Thread nD τ).loc main_arg1)) j := by
  have e : V m c main_v3 = shapeCast S1x1x1024 (shapeCast S1024 (extractStridedSlice S1024x1 ![0, 0]
      (m ((c : Thread nD τ).loc main_arg1)) slices_S1048576x2_S1024x1_0_0) shapeCasts_S1024x1_S1024) shapeCasts_S1024_S1x1x1024 := by
    show StableHlo.after hostOps0 _ _ = _
    after_results
    rfl
  rw [e]
  unfold colW
  pointwise

/-- The row weights as the region finds them. -/
theorem V_row (c : Dev nD) (i : Fin 1024) :
    V m c main_v6 (ix2 i 0) = rowW (m ((c : Thread nD τ).loc main_arg1)) i := by
  have e : V m c main_v6 = shapeCast S1024x1 (shapeCast S1024 (Host.slice S1024x1 ![0, 1] ![1024, 1]
      (m ((c : Thread nD τ).loc main_arg1)) slicesBy_S1048576x2_S1024x1_0s1024_1s1) shapeCasts_S1024x1_S1024) shapeCasts_S1024_S1024x1 := by
    show StableHlo.after hostOps0 _ _ = _
    after_results
    rfl
  rw [e]
  unfold rowW
  pointwise

/-! ## The blocks at a grid point -/

/-- The block indices of the five windows at each grid point. -/
theorem index_eq : ∀ t : Fin grid0.N,
    (win0_0.index t 0 = 0 ∧ win0_0.index t 1 = 0 ∧ win0_0.index t 2 = 0)
    ∧ (win0_1.index t 0 = t.val ∧ win0_1.index t 1 = 0)
    ∧ (win0_2.index t 0 = t.val ∧ win0_2.index t 1 = 0 ∧ win0_2.index t 2 = 0)
    ∧ (win0_3.index t 0 = min (64 * (t.val + 1)) 1023 ∧ win0_3.index t 1 = 0 ∧ win0_3.index t 2 = 0)
    ∧ (win0_4.index t 0 = 0 ∧ win0_4.index t 1 = t.val) := by decide +kernel

/-- The grid has 16 points. -/
theorem tlt (t : Fin cfg0.N) : t.val < 16 := t.isLt

/-- The column weights' block at any point is all of them. -/
theorem iblk0_apply (c : Dev nD) (t : Fin cfg0.N) (j : Fin 1024) :
    iblk m c 0 t (ix3 0 0 j : S1x1x1024.Idx) = colW (m ((c : Thread nD τ).loc main_arg1)) j := by
  refine Eq.trans ?_ (V_col m c j)
  obtain ⟨e0, e1, e2⟩ := (index_eq t).1
  refine congrArg (V m c main_v3) (funext fun a => Fin.ext ?_)
  match a with
  | ⟨0, _⟩ => show win0_0.index t 0 * 1 + 1 * 0 = 0; rw [e0]
  | ⟨1, _⟩ => show win0_0.index t 1 * 1 + 1 * 0 = 0; rw [e1]
  | ⟨2, _⟩ => show win0_0.index t 2 * 1024 + 1 * j.val = j.val; rw [e2]; omega

/-- Row `r` of the row weights' block at point `t`. -/
theorem iblk1_apply (c : Dev nD) (t : Fin cfg0.N) (r : Fin 64) :
    iblk m c 1 t (ix2 r 0 : S64x1.Idx)
      = rowW (m ((c : Thread nD τ).loc main_arg1)) ⟨64 * t.val + r.val, by have := tlt t; omega⟩ := by
  refine Eq.trans ?_ (V_row m c _)
  obtain ⟨e0, e1⟩ := (index_eq t).2.1
  refine congrArg (V m c main_v6) (funext fun a => Fin.ext ?_)
  match a with
  | ⟨0, _⟩ => show win0_1.index t 0 * 64 + 1 * r.val = 64 * t.val + r.val; rw [e0]; omega
  | ⟨1, _⟩ => show win0_1.index t 1 * 1 + 1 * 0 = 0; rw [e1]

/-- The data block at point `t`: its row `r` is grid row `64 t + r`. -/
theorem iblk2_apply (c : Dev nD) (t : Fin cfg0.N) (r : Fin 64) (f : Fin 32) (j : Fin 1024) :
    iblk m c 2 t (ix3 r f j : S64x32x1024.Idx)
      = m ((c : Thread nD τ).loc main_arg0) (ix3 ⟨64 * t.val + r.val, by have := tlt t; omega⟩ j f) := by
  refine Eq.trans ?_ (V_data m c _ f j)
  obtain ⟨e0, e1, e2⟩ := (index_eq t).2.2.1
  refine congrArg (V m c main_v0) (funext fun a => Fin.ext ?_)
  match a with
  | ⟨0, _⟩ => show win0_2.index t 0 * 64 + 1 * r.val = 64 * t.val + r.val; rw [e0]; omega
  | ⟨1, _⟩ => show win0_2.index t 1 * 32 + 1 * f.val = f.val; rw [e1]; omega
  | ⟨2, _⟩ => show win0_2.index t 2 * 1024 + 1 * j.val = j.val; rw [e2]; omega

/-- The extra row at point `t`: the first row of the next block, or the grid's last row. -/
theorem iblk3_apply (c : Dev nD) (t : Fin cfg0.N) (f : Fin 32) (j : Fin 1024) :
    iblk m c 3 t (ix3 0 f j : S1x32x1024.Idx)
      = m ((c : Thread nD τ).loc main_arg0) (ix3 ⟨min (64 * (t.val + 1)) 1023, by omega⟩ j f) := by
  refine Eq.trans ?_ (V_data m c _ f j)
  obtain ⟨e0, e1, e2⟩ := (index_eq t).2.2.2.1
  refine congrArg (V m c main_v0) (funext fun a => Fin.ext ?_)
  match a with
  | ⟨0, _⟩ => show win0_3.index t 0 * 1 + 1 * 0 = min (64 * (t.val + 1)) 1023; rw [e0]; omega
  | ⟨1, _⟩ => show win0_3.index t 1 * 32 + 1 * f.val = f.val; rw [e1]; omega
  | ⟨2, _⟩ => show win0_3.index t 2 * 1024 + 1 * j.val = j.val; rw [e2]; omega

/-- The data under row `r` of the block at point `t` is the data at the grid's next row. -/
theorem below_iblk (c : Dev nD) (t : Fin cfg0.N) (r : Fin 64) (f : Fin 32) (j : Fin 1024) :
    below (iblk m c 2 t) (iblk m c 3 t) r f j
      = m ((c : Thread nD τ).loc main_arg0) (ix3 (nxt ⟨64 * t.val + r.val, by have := tlt t; omega⟩) j f) := by
  have ht := tlt t
  unfold below
  split
  · next h =>
    rw [iblk2_apply]
    refine congrArg (fun i => m ((c : Thread nD τ).loc main_arg0) (ix3 i j f)) (Fin.ext ?_)
    show 64 * t.val + (1 + r.val) = min (64 * t.val + r.val + 1) 1023
    omega
  · next h =>
    rw [iblk3_apply]
    refine congrArg (fun i => m ((c : Thread nD τ).loc main_arg0) (ix3 i j f)) (Fin.ext ?_)
    show min (64 * (t.val + 1)) 1023 = min (64 * t.val + r.val + 1) 1023
    have := r.isLt
    omega

/-- The block's cell `(r, j)` at point `t` is the grid's cell `(64 t + r, j)`. -/
theorem blockCell_iblk (c : Dev nD) (t : Fin cfg0.N) (r : Fin 64) (f : Fin 32) (j : Fin 1024) :
    blockCell (iblk m c 0 t) (iblk m c 1 t) (iblk m c 2 t) (iblk m c 3 t) r f j
      = cellK (m ((c : Thread nD τ).loc main_arg0)) (m ((c : Thread nD τ).loc main_arg1))
          ⟨64 * t.val + r.val, by have := tlt t; omega⟩ j f := by
  unfold blockCell cellK blend rowMix
  simp only [iblk0_apply, iblk1_apply, iblk2_apply, below_iblk]

/-! ## The region's result, and the run -/

/-- Every column of the feature-major result is in some point's block. -/
theorem covers : (cfg0.win 4).Covers := by decide +kernel

/-- Where the block at point `t` lies: feature `f`, column `65536 t + n`. -/
theorem emb_blk (t : Fin cfg0.N) (f : Fin 32) (n : Fin 65536) :
    (((cfg0.win 4).blk t).view.emb (ix2 f n : S32x65536.Idx) : S32x1048576.Idx)
      = ix2 f ⟨65536 * t.val + n.val, by have := tlt t; omega⟩ := by
  obtain ⟨e0, e1⟩ := (index_eq t).2.2.2.2
  refine funext fun a => Fin.ext ?_
  match a with
  | ⟨0, _⟩ => show win0_4.index t 0 * 32 + 1 * f.val = f.val; rw [e0]; omega
  | ⟨1, _⟩ => show win0_4.index t 1 * 65536 + 1 * n.val = 65536 * t.val + n.val; rw [e1]; omega

/-- The block's buffer at point `t`, read at feature `f` and column `n`, is the whole result under it. -/
theorem after_blk (c : Dev nD) (t : Fin cfg0.N) (f : Fin 32) (n : Fin 65536) :
    out0_4 (iblk m c 0 t) (iblk m c 1 t) (iblk m c 2 t) (iblk m c 3 t) (ix2 f n)
      = outK (m ((c : Thread nD τ).loc main_arg0)) (m ((c : Thread nD τ).loc main_arg1))
          (ix2 f ⟨65536 * t.val + n.val, by have := tlt t; omega⟩) := by
  refine (out_cell _ _ _ _ _).trans ((blockCell_iblk m c t _ _ _).trans ?_)
  have ht := tlt t
  have hn := n.isLt
  have hi : (⟨64 * t.val + n.val / 1024, by omega⟩ : Fin 1024) = ⟨(65536 * t.val + n.val) / 1024, by omega⟩ := Fin.ext (by show 64 * t.val + n.val / 1024 = (65536 * t.val + n.val) / 1024; omega)
  have hj : (⟨n.val % 1024, by omega⟩ : Fin 1024) = ⟨(65536 * t.val + n.val) % 1024, by omega⟩ := Fin.ext (by show n.val % 1024 = (65536 * t.val + n.val) % 1024; omega)
  exact congrArg₂ (fun i j => cellK (m ((c : Thread nD τ).loc main_arg0)) (m ((c : Thread nD τ).loc main_arg1)) i j f) hi hj

/-- The same at any index of the block. -/
theorem after_emb (c : Dev nD) (t : Fin cfg0.N) (y : S32x65536.Idx) :
    (dats m 0 c).after 4 t y
      = outK (m ((c : Thread nD τ).loc main_arg0)) (m ((c : Thread nD τ).loc main_arg1)) (((cfg0.win 4).blk t).view.emb y) := by
  refine (congrFun (after0_4 m c t) y).trans ?_
  obtain ⟨f, n, rfl⟩ : ∃ f n, y = ix2 f n := ⟨y 0, y 1, eq_ix2 y⟩
  exact (after_blk m c t f n).trans (congrArg _ (emb_blk t f n).symm)

/-- After the region the feature-major result holds the kernel's value at every cell. -/
theorem final (c : Dev nD) : (dats m 0 c).arrAt 4 cfg0.N
    = outK (m ((c : Thread nD τ).loc main_arg0)) (m ((c : Thread nD τ).loc main_arg1)) := by
  refine (dats m 0 c).arrAt_eq_of_covers 4 _ covers fun t _ y => ?_
  exact after_emb m c t y

/-- The kernel's result array, sample by sample: sample `n` is grid cell `(n / 1024, n % 1024)`. -/
def resK (c : Dev nD) : S1048576x32.Idx → EReal := fun y =>
  outK (m ((c : Thread nD τ).loc main_arg0)) (m ((c : Thread nD τ).loc main_arg1)) (ix2 (y 1) (y 0))

/-- The line after the region transposes the region's result. -/
theorem tail (c : Dev nD) :
    Pipeline.afterTail₀ cfgs (dats m) 0 (V0 m) [hostOps1] c main_v8 = resK m c := by
  have hw : Pipeline.withArrays spec0 c (V0 m c) (fun w => (dats m 0 c).arrAt w cfg0.N) (Proc.devRef .tc main_v7)
      = outK (m ((c : Thread nD τ).loc main_arg0)) (m ((c : Thread nD τ).loc main_arg1)) :=
    ((dats m 0 c).withArrays_arrAt sharedIn0 (V0 m c) (A_eq m c) 4).trans (final m c)
  have e : Pipeline.afterTail₀ cfgs (dats m) 0 (V0 m) [hostOps1] c main_v8
      = transpose S1048576x32 [1, 0] (outK (m ((c : Thread nD τ).loc main_arg0)) (m ((c : Thread nD τ).loc main_arg1)))
          transposes_S32x1048576_S1048576x32_1_0 := by
    rw [← hw]
    unfold Pipeline.afterTail₀
    show StableHlo.after hostOps1 _ _ = _
    after_results
  rw [e]
  funext y
  obtain ⟨n, f, rfl⟩ : ∃ n f, y = ix2 n f := ⟨y 0, y 1, eq_ix2 y⟩
  unfold resK
  pointwise

/-- THE KERNEL'S RUN: every execution ends with the result array at `resK` and the arguments as they were. -/
theorem run : θ_run defs (onTc (τ := τ) (main (F := Ideal))) ⟨m, fun _ => 0, ρ⟩ fun r => ∀ c : Dev nD,
      r.2.mem ((c.tc : Thread nD τ).loc main_v8) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have hv : θ_run defs (onTc (τ := τ) (main (F := Ideal))) ⟨m, fun _ => 0, ρ⟩
      fun r => ∀ c : Dev nD, r.2.mem ((c.tc : Thread nD τ).loc main_v8) = resK m c :=
    (θ_run defs _ _).mono (fun _ h c =>
      ((h c).2 main_v8 (Pipeline.mem_restRefs_of main_v8 (by decide) (by decide))).trans (tail m c)) (run_main m ρ)
  (θ_run defs _ _).mono (fun _ h c => ⟨h.1 c, h.2 c⟩) (θ_run_and hv (unchanged m ρ))

end Cert.KernelIdeal.StencilValue

end
-- ==== Proof.Samples.lean ====
module

public import proofs.«01_k».proof.Proof.Array
public import proofs.«01_k».proof.Proof.Gen.Pre_one_sample_per_cell
public import Idealize.ShloMosaic.Lib.StableHlo.Predicate

@[expose] public section

set_option maxRecDepth 16384

noncomputable section

namespace Cert.KernelIdeal.StencilValue

open Idealize.ShloMosaic Cert.KernelIdeal Cert.KernelIdeal.Gen

/-! # What the precondition says of one sample -/

/-- The number of the sample lying at grid cell `(i, j)`. -/
def smp (i j : Fin 1024) : Fin 1048576 := ⟨i.val * 1024 + j.val, by omega⟩

/-- What the precondition says of the sample at grid cell `(i, j)`: its four corner indices are `j`, `i` and their
    successors, clamped to the grid, and its two weights are the ones of its column and its row, the first lying
    between 0 and 1. -/
structure AtCell (l : S1048576x2.Idx → EReal) (x0 y0 x1 y1 : IVec S1048576 32) (i j : Fin 1024) : Prop where
  left : x0 (ix1 (smp i j)) = BitVec.ofNat 32 j.val
  top : y0 (ix1 (smp i j)) = BitVec.ofNat 32 i.val
  right : x1 (ix1 (smp i j)) = BitVec.ofNat 32 (nxt j).val
  bottom : y1 (ix1 (smp i j)) = BitVec.ofNat 32 (nxt i).val
  col : l (ix2 (smp i j) 0) = colW l j
  row : l (ix2 (smp i j) 1) = rowW l i
  nonneg : 0 ≤ colW l j
  le_one : colW l j ≤ 1

/-- The clamped successor computed on words is the word of the clamped successor. -/
theorem word_nxt (j : Fin 1024) :
    IntOp.minsi (IntOp.addi (BitVec.ofNat 32 j.val) 1#32) 1023#32 = BitVec.ofNat 32 (nxt j).val := by
  have hj := j.isLt
  have hs : IntOp.addi (BitVec.ofNat 32 j.val) 1#32 = BitVec.ofNat 32 (j.val + 1) := (BitVec.ofNat_add _ _).symm
  have ht : ((BitVec.ofNat 32 (j.val + 1)).slt (BitVec.ofNat 32 1023)) = decide (j.val + 1 < 1023) := by
    unfold BitVec.slt
    rw [StableHlo.Predicate.toInt_ofNat_small _ (by omega), StableHlo.Predicate.toInt_ofNat_small _ (by omega)]
    exact decide_eq_decide.2 (by omega)
  rw [hs]
  unfold IntOp.minsi nxt
  rw [ht]
  by_cases h : j.val + 1 < 1023
  · simp only [h, decide_true, if_true]
    exact congrArg (BitVec.ofNat 32) (by omega)
  · simp only [h, decide_false, Bool.false_eq_true, if_false]
    exact congrArg (BitVec.ofNat 32) (by omega)

/-- The precondition, all its bits set, says the same of every grid cell. -/
theorem atCell (d : S1024x1024x32.Idx → EReal) (l : S1048576x2.Idx → EReal) (x0 y0 x1 y1 : IVec S1048576 32)
    (h : Cert.Pre_one_sample_per_cell.fn (F := Ideal) d l x0 y0 x1 y1 = fun _ => 1#1) (i j : Fin 1024) :
    AtCell l x0 y0 x1 y1 i j := by
  have hc := congrFun h (ix2 i j)
  revert hc
  pointwise [Cert.Pre_one_sample_per_cell.fn, Cert.Pre_one_sample_per_cell.fn_part1]
  intro hc
  have both : ∀ {p q : BitVec 1}, IntOp.andi p q = 1#1 → p = 1#1 ∧ q = 1#1 := by decide
  have holds : ∀ {p : Prop} [Decidable p], BitVec.ofBool (decide p) = 1#1 → p := fun e =>
    of_decide_eq_true ((StableHlo.Predicate.ofBool_eq_one_iff _).1 e)
  obtain ⟨hc, h8⟩ := both hc
  obtain ⟨hc, h7⟩ := both hc
  obtain ⟨hc, h6⟩ := both hc
  obtain ⟨hc, h5⟩ := both hc
  obtain ⟨hc, h4⟩ := both hc
  obtain ⟨hc, h3⟩ := both hc
  obtain ⟨h1, h2⟩ := both hc
  have e5 : l (ix2 (smp i j) 0) = colW l j := holds h5
  have e6 : l (ix2 (smp i j) 1) = rowW l i := by
    refine (holds h6).trans ?_
    exact congrArg (fun n => l (ix2 n 1)) (Fin.ext (Nat.mul_comm _ _))
  exact ⟨StableHlo.Predicate.cmpi_eq_iff.1 h1, StableHlo.Predicate.cmpi_eq_iff.1 h2,
    (StableHlo.Predicate.cmpi_eq_iff.1 h3).trans (word_nxt j), (StableHlo.Predicate.cmpi_eq_iff.1 h4).trans (word_nxt i),
    e5, e6, e5 ▸ holds h7, e5 ▸ holds h8⟩

/-! # The equation between the two ways of mixing -/

/-- Mixing four corner values by rows and then by columns gives the weighted sum of the four, where the column
    weight lies between 0 and 1: the sums then distribute whatever the corner values and the row weight are. -/
theorem mix_eq {u : EReal} (v p q r s : EReal) (h0 : 0 ≤ u) (h1 : u ≤ 1) :
    (p * (1 - v) + q * v) * (1 - u) + (r * (1 - v) + s * v) * u
      = p * (1 - u) * (1 - v) + r * u * (1 - v) + q * (1 - u) * v + s * u * v := by
  have hu : u ≠ ⊤ := fun e => by rw [e] at h1; exact absurd h1 (by decide)
  have hb : u ≠ ⊥ := fun e => by rw [e] at h0; exact absurd h0 (by decide)
  have hw0 : 0 ≤ 1 - u := (EReal.sub_nonneg (Or.inr hu) (Or.inr hb)).2 h1
  have hw : 1 - u ≠ ⊤ := ne_top_of_le_ne_top (b := (1 : EReal)) (by decide) (by
    exact (EReal.sub_le_sub le_rfl h0).trans (by simp))
  rw [EReal.right_distrib_of_nonneg_of_ne_top hw0 hw, EReal.right_distrib_of_nonneg_of_ne_top h0 hu,
    mul_right_comm p, mul_right_comm q, mul_right_comm r, mul_right_comm s, add_add_add_comm, ← add_assoc]

end Cert.KernelIdeal.StencilValue

end
-- ==== Proof.Reference.lean ====
module

public import proofs.«01_k».proof.Proof.Samples
public import proofs.«01_k».proof.Proof.Gen.ReferenceIdeal
public import proofs.«01_k».proof.Proof.Gen.ReferenceIdeal.Run
public import Idealize.ShloMosaic.Lib.StableHlo.Predicate

@[expose] public section

set_option maxRecDepth 16384

noncomputable section

namespace Cert.ReferenceIdeal.StencilRef

open Idealize.ShloMosaic Idealize.ShloMosaic.TcCoe Cert.ReferenceIdeal Cert.ReferenceIdeal.Gen Cert.ReferenceIdeal.Facts

/-! # The reference's result, read at one sample -/

/-- The dimension numbers of the reference's four gathers. -/
abbrev dims : GatherDims S1024x1024x32 S1048576x2 S1048576x32 :=
  gather_S1024x1024x32_S1048576x2_S1048576x32_1_01_n_n_01_1_1132

/-- Component `c` of the start index that result entry `(n, f)` reads lies at `(n, c)`. -/
theorem siIdx_at (n : Fin 1048576) (f : Fin 32) (c : Fin 2) : dims.siIdx (ix2 n f) c = ix2 n c := by
  funext b
  match b with
  | ⟨0, _⟩ => rfl
  | ⟨1, _⟩ => rfl

/-- A start component holding the word of a grid coordinate is read as that coordinate, the clamp leaving it. -/
theorem clamp_at (w : BitVec 32) (a : Fin 1024) (h : w = BitVec.ofNat 32 a.val) : min w.toInt.toNat 1023 = a.val := by
  have ha := a.isLt
  rw [h, StableHlo.Predicate.toInt_ofNat_small _ (by omega)]
  omega

/-- Where the start indices of sample `n` are the words of `(a, b)`, the gather reads the data at grid cell `(a, b)`. -/
theorem gather_at (x : S1024x1024x32.Idx → EReal) (idx : IVec S1048576x2 32) (n : Fin 1048576) (f : Fin 32) (a b : Fin 1024)
    (ha : idx (ix2 n 0) = BitVec.ofNat 32 a.val) (hb : idx (ix2 n 1) = BitVec.ofNat 32 b.val) :
    Host.gather dims x idx (ix2 n f) = x (ix3 a b f) := by
  unfold Host.gather
  refine congrArg x (funext fun k => Fin.ext ?_)
  have start (c : Fin 2) (hc : (c.castSucc : Fin 3) ∈ dims.startIndexMap) (e : Fin 1024) (he : idx (ix2 n c) = BitVec.ofNat 32 e.val)
      (hi : dims.startIndexMap.idxOf (c.castSucc : Fin 3) = c.val) (hs : S1024x1024x32.size c.castSucc - dims.sliceSizes c.castSucc = 1023) :
      dims.start (ix2 n f) idx c.castSucc = e.val := by
    unfold GatherDims.start
    rw [dif_pos hc, hs]
    refine (congrArg (fun z => min (idx z).toInt.toNat 1023) ?_).trans (clamp_at _ e he)
    refine Eq.trans (congrArg (dims.siIdx (ix2 n f)) (Fin.ext hi)) (siIdx_at n f c)
  match k with
  | ⟨0, _⟩ =>
    show dims.start (ix2 n f) idx 0 + 0 + 0 = a.val
    exact start 0 (by decide) a ha (by decide) (by decide)
  | ⟨1, _⟩ =>
    show dims.start (ix2 n f) idx 1 + 0 + 0 = b.val
    exact start 1 (by decide) b hb (by decide) (by decide)
  | ⟨2, _⟩ =>
    show 0 + 0 + f.val = f.val
    omega

/-- An index array with negative entries taken from the far end, as the reference does before it gathers. -/
def wrapped (z : IVec S1048576 32) : IVec S1048576x1 32 :=
  broadcastInDim S1048576x1 ![0] bcast_S1048576_S1048576x1_0
    (select (cmpi .slt z (broadcastInDim S1048576 ![] bcast_S_S1048576 (constantI S_ 32 0#32)))
      (addi z (broadcastInDim S1048576 ![] bcast_S_S1048576 (constantI S_ 32 1024#32))) z)

/-- One corner of every sample: the data gathered at the rows `y` and the columns `x`. -/
def corner (d : S1024x1024x32.Idx → EReal) (y x : IVec S1048576 32) : S1048576x32.Idx → EReal :=
  Host.gather dims d (concatenate S1048576x2 1 [⟨S1048576x1, wrapped y⟩, ⟨S1048576x1, wrapped x⟩]
    concatenates_S1048576x1_S1048576x1_S1048576x2_d1)

/-- A wrapped index array still holds the word of a grid coordinate wherever the array does. -/
theorem wrapped_at (z : IVec S1048576 32) (n : Fin 1048576) (a : Fin 1024) (h : z (ix1 n) = BitVec.ofNat 32 a.val) :
    wrapped z (ix2 n 0) = BitVec.ofNat 32 a.val := by
  pointwise [wrapped]
  rw [h]
  have ha := a.isLt
  refine if_neg fun e => ?_
  have hlt := (StableHlo.Predicate.slt_ofNat_iff a.val 0 (by omega) (by omega)).1 e
  omega

/-- The corner of a sample whose row and column indices are the words of `(a, b)` is the data there. -/
theorem corner_at (d : S1024x1024x32.Idx → EReal) (y x : IVec S1048576 32) (n : Fin 1048576) (f : Fin 32) (a b : Fin 1024)
    (hy : y (ix1 n) = BitVec.ofNat 32 a.val) (hx : x (ix1 n) = BitVec.ofNat 32 b.val) :
    corner d y x (ix2 n f) = d (ix3 a b f) := by
  refine gather_at _ _ _ _ a b ?_ ?_
  · pointwise
    exact wrapped_at y n a hy
  · pointwise
    exact wrapped_at x n b hx

variable (m : (ℓ : Loc nD τ sig) → Buf (Elt Ideal) ℓ)

/-- The data. -/
abbrev data (c : Dev nD) : S1024x1024x32.Idx → EReal := m ((c.tc : Thread nD τ).loc main_arg0)
/-- The two weights of every sample. -/
abbrev weights (c : Dev nD) : S1048576x2.Idx → EReal := m ((c.tc : Thread nD τ).loc main_arg1)
/-- The left columns. -/
abbrev left (c : Dev nD) : IVec S1048576 32 := m ((c.tc : Thread nD τ).loc main_arg2)
/-- The top rows. -/
abbrev top (c : Dev nD) : IVec S1048576 32 := m ((c.tc : Thread nD τ).loc main_arg3)
/-- The right columns. -/
abbrev right (c : Dev nD) : IVec S1048576 32 := m ((c.tc : Thread nD τ).loc main_arg4)
/-- The bottom rows. -/
abbrev bottom (c : Dev nD) : IVec S1048576 32 := m ((c.tc : Thread nD τ).loc main_arg5)

/-- The reference's result at sample `n`: the four corners, each weighted by its two weights, added up. -/
theorem res_at (c : Dev nD) (n : Fin 1048576) (f : Fin 32) :
    (Cert.ReferenceIdeal.Value.res_out0 m c : S1048576x32.Idx → EReal) (ix2 n f)
      = corner (data m c) (top m c) (left m c) (ix2 n f) * (1 - weights m c (ix2 n 0)) * (1 - weights m c (ix2 n 1))
        + corner (data m c) (top m c) (right m c) (ix2 n f) * weights m c (ix2 n 0) * (1 - weights m c (ix2 n 1))
        + corner (data m c) (bottom m c) (left m c) (ix2 n f) * (1 - weights m c (ix2 n 0)) * weights m c (ix2 n 1)
        + corner (data m c) (bottom m c) (right m c) (ix2 n f) * weights m c (ix2 n 0) * weights m c (ix2 n 1) := by
  unfold Cert.ReferenceIdeal.Value.res_out0 Cert.ReferenceIdeal.Value.res_main_v84 corner wrapped
  pointwise

open Cert.KernelIdeal.StencilValue in
/-- Under the precondition the reference's result is the kernel's, at every sample and feature. -/
theorem res_eq (c : Dev nD)
    (h : Cert.Pre_one_sample_per_cell.fn (F := Ideal) (data m c) (weights m c) (left m c) (top m c) (right m c) (bottom m c)
      = fun _ => 1#1) :
    (Cert.ReferenceIdeal.Value.res_out0 m c : S1048576x32.Idx → EReal)
      = fun y => outK (data m c) (weights m c) (ix2 (y 1) (y 0)) := by
  funext y
  obtain ⟨n, f, rfl⟩ : ∃ n f, y = ix2 n f := ⟨y 0, y 1, eq_ix2 y⟩
  have hn := n.isLt
  obtain ⟨i, j, rfl⟩ : ∃ i j, n = smp i j :=
    ⟨⟨n.val / 1024, by omega⟩, ⟨n.val % 1024, Nat.mod_lt _ (by decide)⟩, Fin.ext (by unfold smp; dsimp only; omega)⟩
  have hi : (⟨(smp i j).val / 1024, by omega⟩ : Fin 1024) = i := Fin.ext (by unfold smp; dsimp only; omega)
  have hj : (⟨(smp i j).val % 1024, Nat.mod_lt _ (by decide)⟩ : Fin 1024) = j := Fin.ext (by unfold smp; dsimp only; omega)
  have p := atCell _ _ _ _ _ _ h i j
  have hk : outK (data m c) (weights m c) (ix2 f (smp i j)) = cellK (data m c) (weights m c) i j f := by
    unfold outK
    exact congrFun (congr (congrArg (cellK (data m c) (weights m c)) hi) hj) f
  refine (res_at m c _ f).trans (Eq.trans ?_ hk.symm)
  rw [corner_at _ _ _ _ f i j p.top p.left, corner_at _ _ _ _ f i (nxt j) p.top p.right,
    corner_at _ _ _ _ f (nxt i) j p.bottom p.left, corner_at _ _ _ _ f (nxt i) (nxt j) p.bottom p.right, p.col, p.row]
  exact (mix_eq _ _ _ _ _ p.nonneg p.le_one).symm

end Cert.ReferenceIdeal.StencilRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_one_sample_per_cell
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, on arguments that satisfy the precondition, the kernel and the reference end with the
    same result. -/
theorem same_result : Cert.algebraic_KernelIdeal_ReferenceIdeal_pre_one_sample_per_cell := by
  intro m ρ m' ρ' hpre hagree
  refine ⟨fun c => Cert.KernelIdeal.StencilValue.resK m c, Cert.KernelIdeal.StencilValue.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5⟩ := hagree c
  have hp := hpre c
  rw [← e0, ← e1, ← e2, ← e3, ← e4, ← e5] at hp
  refine (Cert.ReferenceIdeal.StencilRef.res_eq m' c hp).trans ?_
  funext y
  exact congr (congr (congrArg Cert.KernelIdeal.StencilValue.outK e0) e1) rfl

/-- THE CLAIM: both forms of the kernel and the reference run to the end and leave their arguments as they were, and the
    kernel's result is the reference's. -/
theorem claim : Cert.Claim :=
  ⟨Cert.Kernel.Gen.facts, Cert.KernelIdeal.Gen.facts, Cert.ReferenceIdeal.Gen.facts, Cert.Pre_one_sample_per_cell.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, same_result⟩

end Cert.Proof

end
